-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S512 : Shape := ⟨1, ![512]⟩
abbrev S128x512 : Shape := ⟨2, ![128, 512]⟩
abbrev S1x512 : Shape := ⟨2, ![1, 512]⟩
abbrev S_ : Shape := ⟨0, ![]⟩

class Facts : Prop where
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)

variable [Facts]

def fn {F : FTy → Type} [FloatOps F] (main_arg0 : FVec F S512 .f32) (main_arg1 : FVec F S128x512 .f32) : IVec S128x512 1 :=
  let main_v0 : FVec F S1x512 .f32 := broadcastInDim S1x512 ![1] bcast_S512_S1x512_1 main_arg0
  let main_v1 : FVec F S128x512 .f32 := broadcastInDim S128x512 ![0, 1] bcast_S1x512_S128x512_0_1 main_v0
  let main_v2 : FVec F S128x512 .f32 := addf main_v1 main_arg1
  let main_v3 : FVec F S128x512 .f32 := Host.absf main_v2
  let main_cst : FVec F S_ .f32 := constant S_ .f32 0x7F800000#32
  let main_v4 : FVec F S128x512 .f32 := broadcastInDim S128x512 ![] bcast_S_S128x512 main_cst
  let main_v5 : IVec S128x512 1 := cmpf .olt main_v3 main_v4
  main_v5
-- ==== Kernel.lean ====
abbrev S512 : Shape := ⟨1, ![512]⟩
abbrev S128x512 : Shape := ⟨2, ![128, 512]⟩
abbrev S1x512 : Shape := ⟨2, ![1, 512]⟩
abbrev S16x8x512 : Shape := ⟨3, ![16, 8, 512]⟩
abbrev S128x512x512 : Shape := ⟨3, ![128, 512, 512]⟩
abbrev S1x8x512 : Shape := ⟨3, ![1, 8, 512]⟩
abbrev S8x512x512 : Shape := ⟨3, ![8, 512, 512]⟩
abbrev S8x512 : Shape := ⟨2, ![8, 512]⟩
abbrev S512x512 : Shape := ⟨2, ![512, 512]⟩
abbrev S512x1 : Shape := ⟨2, ![512, 1]⟩
abbrev S1x512x512 : Shape := ⟨3, ![1, 512, 512]⟩

abbrev nBuf : Space → Nat
  | .hbm => 5
  | .vmem => 5
  | .smem => 0
  | _ => 0

abbrev bufTy : (tb : Table) → Fin (tcTables nBuf tb) → BufTy
  | .hbm, ⟨0, _⟩ => ⟨S512, .f32⟩
  | .hbm, ⟨1, _⟩ => ⟨S128x512, .f32⟩
  | .hbm, ⟨2, _⟩ => ⟨S1x512, .f32⟩
  | .hbm, ⟨3, _⟩ => ⟨S16x8x512, .f32⟩
  | .hbm, ⟨4, _⟩ => ⟨S128x512x512, .f32⟩
  | .local _ .vmem, ⟨0, _⟩ => ⟨S1x512, .f32⟩
  | .local _ .vmem, ⟨1, _⟩ => ⟨S1x8x512, .f32⟩
  | .local _ .vmem, ⟨2, _⟩ => ⟨S1x8x512, .f32⟩
  | .local _ .vmem, ⟨3, _⟩ => ⟨S8x512x512, .f32⟩
  | .local _ .vmem, ⟨4, _⟩ => ⟨S8x512x512, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S512 : Shape := ⟨1, ![512]⟩
abbrev S128x512 : Shape := ⟨2, ![128, 512]⟩
abbrev S1x512 : Shape := ⟨2, ![1, 512]⟩
abbrev S128x512x1 : Shape := ⟨3, ![128, 512, 1]⟩
abbrev S1x1x512 : Shape := ⟨3, ![1, 1, 512]⟩
abbrev S128x512x512 : Shape := ⟨3, ![128, 512, 512]⟩
abbrev S128x1x512 : Shape := ⟨3, ![128, 1, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S512, .f32⟩
  | .hbm, ⟨1, _⟩ => ⟨S128x512, .f32⟩
  | .hbm, ⟨2, _⟩ => ⟨S1x512, .f32⟩
  | .hbm, ⟨3, _⟩ => ⟨S128x512, .f32⟩
  | .hbm, ⟨4, _⟩ => ⟨S128x512, .f32⟩
  | .hbm, ⟨5, _⟩ => ⟨S128x512, .i32⟩
  | .hbm, ⟨6, _⟩ => ⟨S128x512, .f32⟩
  | .hbm, ⟨7, _⟩ => ⟨S128x512, .i32⟩
  | .hbm, ⟨8, _⟩ => ⟨S128x512x1, .i32⟩
  | .hbm, ⟨9, _⟩ => ⟨S1x1x512, .i32⟩
  | .hbm, ⟨10, _⟩ => ⟨S128x512x512, .i32⟩
  | .hbm, ⟨11, _⟩ => ⟨S128x512x512, .i32⟩
  | .hbm, ⟨12, _⟩ => ⟨S128x512x512, .i1⟩
  | .hbm, ⟨13, _⟩ => ⟨S128x512x512, .f32⟩
  | .hbm, ⟨14, _⟩ => ⟨S128x512, .f32⟩
  | .hbm, ⟨15, _⟩ => ⟨S128x512x1, .f32⟩
  | .hbm, ⟨16, _⟩ => ⟨S128x1x512, .f32⟩
  | .hbm, ⟨17, _⟩ => ⟨S128x512x512, .f32⟩
  | .hbm, ⟨18, _⟩ => ⟨S128x512x512, .f32⟩
  | .hbm, ⟨19, _⟩ => ⟨S128x512x512, .f32⟩
  | .hbm, ⟨20, _⟩ => ⟨S128x512x512, .f32⟩
  | .hbm, ⟨21, _⟩ => ⟨S128x512x512, .f32⟩
  | .hbm, ⟨22, _⟩ => ⟨S_, .f32⟩
  | .hbm, ⟨23, _⟩ => ⟨S128x512x512, .f32⟩
  | .hbm, ⟨24, _⟩ => ⟨S128x512x512, .f32⟩
  | .hbm, ⟨25, _⟩ => ⟨S_, .f32⟩
  | .hbm, ⟨26, _⟩ => ⟨S128x512, .f32⟩
  | .hbm, ⟨27, _⟩ => ⟨S_, .f32⟩
  | .hbm, ⟨28, _⟩ => ⟨S128x512, .f32⟩
  | .hbm, ⟨29, _⟩ => ⟨S128x512, .f32⟩
  | .hbm, ⟨30, _⟩ => ⟨S128x512x1, .f32⟩
  | .hbm, ⟨31, _⟩ => ⟨S128x512x512, .f32⟩
  | .hbm, ⟨32, _⟩ => ⟨S128x512x512, .f32⟩
  | .hbm, ⟨33, _⟩ => ⟨S128x512x512, .f32⟩
  | .hbm, ⟨34, _⟩ => ⟨S_, .f32⟩
  | .hbm, ⟨35, _⟩ => ⟨S128x512, .f32⟩
  | .hbm, ⟨36, _⟩ => ⟨S128x512x1, .f32⟩
  | .hbm, ⟨37, _⟩ => ⟨S128x512x512, .f32⟩
  | .hbm, ⟨38, _⟩ => ⟨S128x512x512, .f32⟩
  | .hbm, ⟨39, _⟩ => ⟨S128x512x512, .f32⟩
  | .hbm, ⟨40, _⟩ => ⟨S128x512x512, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1_0 : Ref sig .tc := ⟨.hbm, 6, rfl⟩
abbrev main_v3 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Rank.lean ====
/-
  The stable ascending sort and the RANK of an entry, with no program in sight.

  `Precedes s a b` — entry `a` stands before entry `b` in a stable ascending sort of `s` — is "smaller, or equal and
  further to the front". `rank s j` counts the entries that precede `j`. The kernel counts; the reference sorts. The
  theorem `sortedFrom_eq_iff_rank` says the two agree: the sort takes its `i`-th entry from position `j` exactly
  when the rank of `j` is `i`.
-/
module

public import Idealize.ShloMosaic.Lib.SortFacts
public import Mathlib.Order.Defs.LinearOrder
public import Mathlib.Data.Fintype.Card
public import Mathlib.Order.Interval.Finset.Fin

@[expose] public section

namespace Cert.Rank

open Idealize.ShloMosaic

variable {α : Type} [LinearOrder α] {n : Nat}

/-- `a` comes before `b` in the stable ascending order of `s`: its value is smaller, or the values are equal and it
    stands further to the front. -/
def Precedes (s : Fin n → α) (a b : Fin n) : Prop := s a < s b ∨ (s a = s b ∧ a < b)

/-- Which of two entries comes first can be decided. -/
instance (s : Fin n → α) (a b : Fin n) : Decidable (Precedes s a b) := by unfold Precedes; infer_instance

/-- How many entries of `s` come before entry `j`. -/
def rank (s : Fin n → α) (j : Fin n) : Nat := (Finset.univ.filter fun k => Precedes s k j).card

/-- The comparison a sort is given: strictly smaller value. -/
def below (s : Fin n → α) (a b : Fin n) : Bool := decide (s a < s b)

/-- "Comes before" is transitive. -/
theorem Precedes.trans {s : Fin n → α} {a b c : Fin n} (h : Precedes s a b) (h' : Precedes s b c) : Precedes s a c := by
  rcases h with h | ⟨h, hab⟩ <;> rcases h' with h' | ⟨h', hbc⟩
  · exact Or.inl (h.trans h')
  · exact Or.inl (h' ▸ h)
  · exact Or.inl (h ▸ h')
  · exact Or.inr ⟨h.trans h', hab.trans hbc⟩

/-- No entry comes before itself. -/
theorem Precedes.irrefl (s : Fin n → α) (a : Fin n) : ¬ Precedes s a a := by
  rintro (h | ⟨_, h⟩) <;> exact lt_irrefl _ h

/-- An entry standing in front of all of an ordered list is inserted where it keeps the list ordered. -/
theorem pairwise_insert (s : Fin n → α) (a : Fin n) (l : List (Fin n)) (ha : ∀ b ∈ l, a < b) (hl : l.Pairwise (Precedes s)) :
    (insertBefore (below s) a l).Pairwise (Precedes s) := by
  induction l with
  | nil => exact List.pairwise_singleton _ _
  | cons b l ih =>
    obtain ⟨hb, hl'⟩ := List.pairwise_cons.mp hl
    unfold insertBefore
    by_cases h : s b < s a
    · rw [if_pos (show below s b a = true from decide_eq_true h)]
      refine List.pairwise_cons.mpr ⟨fun c hc => ?_, ih (fun c hc => ha c (List.mem_cons_of_mem _ hc)) hl'⟩
      rcases List.mem_cons.mp ((perm_insertBefore (below s) a l).mem_iff.mp hc) with rfl | hc'
      · exact Or.inl h
      · exact hb c hc'
    · rw [if_neg (show ¬ below s b a = true by simpa [below] using h)]
      have hab : Precedes s a b := by
        rcases lt_or_eq_of_le (not_lt.mp h) with h' | h'
        · exact Or.inl h'
        · exact Or.inr ⟨h', ha b List.mem_cons_self⟩
      refine List.pairwise_cons.mpr ⟨fun c hc => ?_, hl⟩
      rcases List.mem_cons.mp hc with rfl | hc'
      · exact hab
      · exact hab.trans (hb c hc')

/-- The stable sort of an increasing list of positions is ordered by `Precedes`. -/
theorem pairwise_sort (s : Fin n → α) (l : List (Fin n)) (hl : l.Pairwise (· < ·)) :
    (stableSort (below s) l).Pairwise (Precedes s) := by
  induction l with
  | nil => exact List.Pairwise.nil
  | cons a l ih =>
    obtain ⟨ha, hl'⟩ := List.pairwise_cons.mp hl
    unfold stableSort
    exact pairwise_insert s a _ (fun b hb => ha b ((perm_stableSort (below s) l).mem_iff.mp hb)) (ih hl')

/-- The sort's entries stand in the order `Precedes`. -/
theorem precedes_sortedFrom (s : Fin n → α) {p q : Fin n} (h : p < q) :
    Precedes s (sortedFrom (below s) p) (sortedFrom (below s) q) := by
  have hp := List.pairwise_iff_get.mp (pairwise_sort s (List.finRange n) (List.pairwise_lt_finRange n))
  exact hp _ _ (show p.val < q.val from h)

/-- The entry the sort puts at `p` has rank `p`. -/
theorem rank_sortedFrom (s : Fin n → α) (p : Fin n) : rank s (sortedFrom (below s) p) = p.val := by
  have hσ := sortedFrom_injective (below s)
  have hset : (Finset.univ.filter fun k => Precedes s k (sortedFrom (below s) p))
      = (Finset.univ.filter fun q : Fin n => q < p).map ⟨sortedFrom (below s), hσ⟩ := by
    ext k
    simp only [Finset.mem_filter, Finset.mem_univ, true_and, Finset.mem_map, Function.Embedding.coeFn_mk]
    refine ⟨fun hk => ?_, ?_⟩
    · obtain ⟨q, rfl⟩ := sortedFrom_surjective (below s) k
      refine ⟨q, ?_, rfl⟩
      rcases lt_trichotomy q p with h | rfl | h
      · exact h
      · exact absurd hk (Precedes.irrefl s _)
      · exact absurd (hk.trans (precedes_sortedFrom s h)) (Precedes.irrefl s _)
    · rintro ⟨q, hq, rfl⟩
      exact precedes_sortedFrom s hq
  have hIio : (Finset.univ.filter fun q : Fin n => q < p) = Finset.Iio p := by ext q; simp
  rw [rank, hset, Finset.card_map, hIio, Fin.card_Iio]

/-- THE SORT AND THE COUNT AGREE: the sort takes its entry `i` from position `j` exactly when `j` has rank `i`. -/
theorem sortedFrom_eq_iff_rank (s : Fin n → α) (i j : Fin n) : sortedFrom (below s) i = j ↔ rank s j = i.val := by
  refine ⟨fun h => h ▸ rank_sortedFrom s i, fun h => ?_⟩
  obtain ⟨p, rfl⟩ := sortedFrom_surjective (below s) j
  rw [rank_sortedFrom] at h
  rw [Fin.ext h]

/-- A rank is at most the number of entries. -/
theorem rank_le (s : Fin n → α) (j : Fin n) : rank s j ≤ n := by
  have h := Finset.card_filter_le (Finset.univ : Finset (Fin n)) fun k => Precedes s k j
  rwa [Finset.card_univ, Fintype.card_fin] at h

end Cert.Rank
-- ==== Proof.Spec.lean ====
/-
  What the result holds, as a function of the two arguments: element (s, i, j) is 1 if score `j` of sample `s` has rank
  `i` among that sample's 512 scores, and 0 otherwise. Both programs are shown to compute it.
-/
module

public import proofs.«01_k».proof.Proof.Rank
public import Idealize.ShloMosaic.PureOps.Ideal
public import Idealize.ShloMosaic.Lib.Pointwise.Index

@[expose] public section

noncomputable section

namespace Cert.Spec

open Idealize.ShloMosaic Cert.Rank

/-- Sample `s`'s scores: the noise added to the shared parameters. -/
def row (g : (⟨1, ![512]⟩ : Shape).Idx → EReal) (x : (⟨2, ![128, 512]⟩ : Shape).Idx → EReal) (s : Fin 128) : Fin 512 → EReal :=
  fun k => g (ix1 k) + x (ix2 s k)

/-- 1 where entry `j` of the scores `v` has rank `i`, 0 elsewhere. -/
def hit (v : Fin 512 → EReal) (i j : Fin 512) : EReal := if rank v j = i.val then 1 else 0

/-- The permutation matrices, all samples. -/
def perms (g : (⟨1, ![512]⟩ : Shape).Idx → EReal) (x : (⟨2, ![128, 512]⟩ : Shape).Idx → EReal) :
    (⟨3, ![128, 512, 512]⟩ : Shape).Idx → EReal :=
  fun y => hit (row g x (y 0)) (y 1) (y 2)

end Cert.Spec

end
-- ==== Proof.Hits.lean ====
/-
  What the kernel computes for one sample: from a row of 512 scores, the matrix with a one at (i, j) where score `j` has
  rank `i`. The kernel counts, for every column `j`, the scores that precede score `j`, and compares the count with the
  row number `i`.
-/
module

public import proofs.«01_k».proof.Proof.Spec
public import proofs.«01_k».proof.Proof.Gen.KernelIdeal
public import Idealize.ShloMosaic.PureOps.Ideal.Laws
public import Idealize.ShloMosaic.PureOps.Reduce
public import Idealize.ShloMosaic.Lib.WordCmp
public import Idealize.ShloMosaic.Lib.Pointwise

@[expose] public section

set_option maxRecDepth 16384

noncomputable section

namespace Cert.Hits

open Cert.KernelIdeal Cert.KernelIdeal.Gen Idealize.ShloMosaic Cert.Rank Cert.Spec

/-- The kernel's comparison for every pair (k, j): score `k` precedes score `j`. -/
abbrev pairs (v : FVec Ideal S1x512 .f32) : IVec S512x512 1 :=
  ori (cmpf .olt (broadcastTo S512x512 (shapeCast S512x1 v shapeCasts_S1x512_S512x1) broadcasts_S512x1_S512x512) (broadcastTo S512x512 v broadcasts_S1x512_S512x512))
    (andi (cmpf .oeq (broadcastTo S512x512 (shapeCast S512x1 v shapeCasts_S1x512_S512x1) broadcasts_S512x1_S512x512) (broadcastTo S512x512 v broadcasts_S1x512_S512x512))
      (cmpi .slt (iota .tc S512x512 32 [0] iota_S512x512_d0_w32) (iota .tc S512x512 32 [1] iota_S512x512_d1_w32)))

/-- The counts, one per column. -/
abbrev counts (v : FVec Ideal S1x512 .f32) : IVec S512 32 :=
  multiReductionI .add [0] S512 (extui 32 (pairs v) natLt_1_32) 0#32 reduces_S512x512_S512 rfl

/-- One sample's matrix: row number against count. -/
abbrev matrix (v : FVec Ideal S1x512 .f32) : FVec Ideal S1x512x512 .f32 :=
  shapeCast S1x512x512 (sitofp .f32 (extui 32 (cmpi .eq (iota .tc S512x512 32 [0] iota_S512x512_d0_w32)
    (broadcastTo S512x512 (shapeCast S1x512 (counts v) shapeCasts_S512_S1x512) broadcasts_S1x512_S512x512)) natLt_1_32)) shapeCasts_S512x512_S1x512x512

/-- Adding up a 0/1 word per index counts the ones. -/
theorem fold_count {n : Nat} (P : Fin n → Prop) [DecidablePred P] (s : Finset (Fin n)) :
    s.fold IntOp.addi 0#32 (fun k => if P k then 1#32 else 0#32) = BitVec.ofNat 32 (s.filter P).card := by
  induction s using Finset.induction_on with
  | empty => rfl
  | insert a s ha ih =>
    rw [Finset.fold_insert ha, ih, Finset.filter_insert]
    by_cases h : P a
    · rw [if_pos h, if_pos h, Finset.card_insert_of_notMem (by simp [ha])]
      show 1#32 + _ = _
      rw [← BitVec.ofNat_add, Nat.add_comm]
    · rw [if_neg h, if_neg h]
      show 0#32 + _ = _
      rw [BitVec.zero_add]

/-- The comparison of a pair is `Precedes`. -/
theorem pairs_apply (v : FVec Ideal S1x512 .f32) (k j : Fin 512) :
    pairs v (ix2 k j) = BitVec.ofBool (decide (Precedes (fun l : Fin 512 => (v (ix2 0 l) : EReal)) k j)) := by
  have h : pairs v (ix2 k j) = IntOp.ori (Ideal.cmp .olt (v (ix2 0 k)) (v (ix2 0 j)))
      (IntOp.andi (Ideal.cmp .oeq (v (ix2 0 k)) (v (ix2 0 j))) (IntOp.cmpi .slt (BitVec.ofNat 32 k.val) (BitVec.ofNat 32 j.val))) := by
    unfold pairs
    pointwise
  have hlt : ∀ l : Fin 512, l.val < 2 ^ (32 - 1) := fun l => lt_trans l.isLt (by decide)
  rw [h, WordCmp.cmpi_slt_eq, WordCmp.toInt_ofNat_of_lt (hlt k), WordCmp.toInt_ofNat_of_lt (hlt j)]
  show IntOp.ori (BitVec.ofBool (decide _)) (IntOp.andi (BitVec.ofBool (decide _)) _) = _
  rw [WordCmp.andi_ofBool, WordCmp.ori_ofBool, ← Bool.decide_and, ← Bool.decide_or]
  congr 1
  refine decide_eq_decide.mpr (or_congr Iff.rfl (and_congr Iff.rfl ?_))
  rw [Fin.lt_def]
  exact Int.ofNat_lt

/-- A bit widened to a word. -/
theorem wide_bit (b : Bool) : (BitVec.ofBool b).zeroExtend 32 = if b = true then 1#32 else 0#32 := by cases b <;> rfl

/-- A column's count is its score's rank. -/
theorem counts_apply (v : FVec Ideal S1x512 .f32) (j : Fin 512) :
    counts v (ix1 j) = BitVec.ofNat 32 (rank (fun l : Fin 512 => (v (ix2 0 l) : EReal)) j) := by
  have h : counts v (ix1 j) = (Finset.univ : Finset (Fin 512)).fold IntOp.addi 0#32
      (fun k => (pairs v (ix2 k j)).zeroExtend 32) := by
    refine (multiReductionI_eq_fold .add (extui 32 (pairs v) natLt_1_32) 0#32 reduces_S512x512_S512 rfl (ix1 j)).trans ?_
    pointwise
  have hb : (fun k : Fin 512 => (pairs v (ix2 k j)).zeroExtend 32)
      = fun k => if Precedes (fun l : Fin 512 => (v (ix2 0 l) : EReal)) k j then 1#32 else 0#32 := by
    funext k
    rw [pairs_apply, wide_bit]
    simp only [decide_eq_true_eq]
  rw [h, hb, fold_count]
  rfl

/-- A comparison bit of two words, widened and read as a signed number. -/
theorem wide_bit_real (a b : BitVec 32) : ((((IntOp.cmpi .eq a b).zeroExtend 32).toInt : ℝ) : EReal) = if a = b then 1 else 0 := by
  have e : IntOp.cmpi .eq a b = BitVec.ofBool (decide (a = b)) := by
    show BitVec.ofBool (a == b) = _
    rw [beq_eq_decide]
  rw [e, wide_bit]
  by_cases h : a = b <;> simp [h]

/-- ONE SAMPLE'S MATRIX IS THE RANK INDICATOR of its row of scores. -/
theorem matrix_apply (v : FVec Ideal S1x512 .f32) (i j : Fin 512) :
    matrix v (ix3 0 i j) = hit (fun l : Fin 512 => (v (ix2 0 l) : EReal)) i j := by
  have h : matrix v (ix3 0 i j) = ((((IntOp.cmpi .eq (BitVec.ofNat 32 i.val) (counts v (ix1 j))).zeroExtend 32).toInt : ℝ) : EReal) := by
    unfold matrix
    pointwise
    rfl
  rw [h, counts_apply, wide_bit_real]
  have hi : i.val < 2 ^ 32 := lt_trans i.isLt (by decide)
  have hr : rank (fun l : Fin 512 => (v (ix2 0 l) : EReal)) j < 2 ^ 32 := lt_of_le_of_lt (rank_le _ j) (by decide)
  refine if_congr ?_ rfl rfl
  rw [WordCmp.ofNat_eq_ofNat_iff hi hr]
  exact eq_comm

end Cert.Hits

end
-- ==== Proof.Block.lean ====
/-
  What one grid point leaves in the output buffer: eight samples' matrices, one store each. Element (k, i, j) of the
  block is the rank indicator of sample `k`'s scores, the parameters plus row `k` of the point's noise.
-/
module

public import proofs.«01_k».proof.Proof.Hits
public import proofs.«01_k».proof.Proof.Gen.KernelIdeal.Frame
public import Idealize.ShloMosaic.Lib.Pipeline.Value

@[expose] public section

set_option maxRecDepth 16384

noncomputable section

namespace Cert.Block

open Cert.KernelIdeal Cert.KernelIdeal.Gen Idealize.ShloMosaic Idealize.SL.Sem Cert.Spec Cert.Hits

/-- Sample `k`'s scores within a block: the parameters plus row `k` of the noise. -/
def blockRow (x0 : Vec Ideal S1x512 .f32) (x1 : Vec Ideal S1x8x512 .f32) (k : Fin 8) : Fin 512 → EReal :=
  fun l => x0 (ix2 0 l) + x1 (ix3 0 k l)

/-- The block's contents, index by index. -/
def blockOf (x0 : Vec Ideal S1x512 .f32) (x1 : Vec Ideal S1x8x512 .f32) : Vec Ideal S8x512x512 .f32 :=
  fun y => hit (blockRow x0 x1 (y 0)) (y 1) (y 2)

/-- The scores as the kernel slices them, sample `k`. -/
abbrev sliceRow (x0 : Vec Ideal S1x512 .f32) (x1 : Vec Ideal S1x8x512 .f32) (k : Nat) (h : S8x512.Slices ![k, 0] S1x512) : FVec Ideal S1x512 .f32 :=
  addf (k0_pay3 (View.ld x0 r0_0)) (extractStridedSlice S1x512 ![k, 0] (k0_pay4 (View.ld x1 r0_1)) h)

/-- Loading all of the parameters gives the parameters. -/
theorem ld0 (x0 : Vec Ideal S1x512 .f32) : View.ld x0 r0_0 = x0 := View.ld_unit_zero (by decide) _ _
/-- Loading all of the noise block gives the noise block. -/
theorem ld1 (x1 : Vec Ideal S1x8x512 .f32) : View.ld x1 r0_1 = x1 := View.ld_unit_zero (by decide) _ _

/-- Row `k` of the scores, as the kernel computes it, read at an entry. -/
theorem sliceRow_apply (x0 : Vec Ideal S1x512 .f32) (x1 : Vec Ideal S1x8x512 .f32) (k : Fin 8) (h : S8x512.Slices ![k.val, 0] S1x512) (l : Fin 512) :
    sliceRow x0 x1 k.val h (ix2 0 l) = blockRow x0 x1 k l := by
  unfold sliceRow blockRow k0_pay3 k0_pay4
  rw [ld0, ld1]
  pointwise

/-- One store's payload at a local index is the block's contents at the index it is stored to. -/
theorem piece (x0 : Vec Ideal S1x512 .f32) (x1 : Vec Ideal S1x8x512 .f32) (k : Fin 8) (h : S8x512.Slices ![k.val, 0] S1x512)
    (inb : ∀ a, ![k.val, 0, 0] a + S1x512x512.size a ≤ S8x512x512.size a) (x : S1x512x512.Idx) :
    matrix (sliceRow x0 x1 k.val h) x = blockOf x0 x1 ((Rect.unit (s := S8x512x512) ![k.val, 0, 0] S1x512x512.size inb).emb x) := by
  obtain ⟨u, i, j, rfl⟩ : ∃ u i j, x = ix3 u i j := ⟨x 0, x 1, x 2, eq_ix3 x⟩
  obtain rfl : u = 0 := Fin.ext (by omega)
  have he : (Rect.unit (s := S8x512x512) ![k.val, 0, 0] S1x512x512.size inb).emb (ix3 0 i j) = ix3 k i j := by
    funext a
    apply Fin.ext
    fin_cases a
    · show k.val + 1 * 0 = k.val; omega
    · show 0 + 1 * i.val = i.val; omega
    · show 0 + 1 * j.val = j.val; omega
  rw [matrix_apply, he]
  show _ = hit (blockRow x0 x1 k) i j
  congr 1
  funext l
  exact sliceRow_apply x0 x1 k h l

/-- THE BLOCK a grid point leaves in the output buffer. -/
theorem out_eq (x0 : Vec Ideal S1x512 .f32) (x1 : Vec Ideal S1x8x512 .f32) : out0_2 x0 x1 = blockOf x0 x1 := by
  funext y
  unfold_out out0_2
  refine View.canon_apply_of_pieces (blockOf x0 x1) _ ?_ y (cover0_2 _ _ _ _ _ _ _ _ y)
  simp only [List.forall_mem_cons, List.not_mem_nil, false_imp_iff, implies_true, and_true]
  exact ⟨piece x0 x1 7 slices_S8x512_o7_0_S1x512 _, piece x0 x1 6 slices_S8x512_o6_0_S1x512 _,
    piece x0 x1 5 slices_S8x512_o5_0_S1x512 _, piece x0 x1 4 slices_S8x512_o4_0_S1x512 _,
    piece x0 x1 3 slices_S8x512_o3_0_S1x512 _, piece x0 x1 2 slices_S8x512_o2_0_S1x512 _,
    piece x0 x1 1 slices_S8x512_o1_0_S1x512 _, piece x0 x1 0 slices_S8x512_o0_0_S1x512 _⟩

end Cert.Block

end
-- ==== Proof.Array.lean ====
/-
  What the kernel's result array holds after the grid: the permutation matrices of all samples. Grid point `t` reads the
  parameters and rows `8 t` to `8 t + 7` of the noise, and writes samples `8 t` to `8 t + 7` of the result.
-/
module

public import proofs.«01_k».proof.Proof.Block
public import proofs.«01_k».proof.Proof.Gen.KernelIdeal.Value
public import Idealize.ShloMosaic.Lib.StableHlo.ReadAt

@[expose] public section

set_option maxRecDepth 16384

noncomputable section

namespace Cert.Array

open Cert.KernelIdeal Cert.KernelIdeal.Gen Idealize.ShloMosaic Idealize.ShloMosaic.TcCoe Idealize.SL.Sem Cert.Spec Cert.Block
open Idealize.ShloMosaic.Pipeline (Dat)

variable (m : (ℓ : Loc nD τ sig) → Buf (Elt Ideal) ℓ) (ρ : Dev nD → PrngReg)

/-- The grid has 16 points. -/
theorem lt_16 (t : Fin cfg0.N) : t.val < 16 := lt_of_lt_of_eq t.isLt N_0

/-- Each window's block index at each point. -/
theorem index_eq : ∀ t : Fin cfg0.N,
    win0_0.index t 0 = 0 ∧ win0_0.index t 1 = 0 ∧ win0_1.index t 0 = t.val ∧ win0_1.index t 1 = 0 ∧ win0_1.index t 2 = 0
    ∧ win0_2.index t 0 = t.val ∧ win0_2.index t 1 = 0 ∧ win0_2.index t 2 = 0 :=
  (by decide +kernel : ∀ t : Fin grid0.N,
    win0_0.index t 0 = 0 ∧ win0_0.index t 1 = 0 ∧ win0_1.index t 0 = t.val ∧ win0_1.index t 1 = 0 ∧ win0_1.index t 2 = 0
    ∧ win0_2.index t 0 = t.val ∧ win0_2.index t 1 = 0 ∧ win0_2.index t 2 = 0)

/-- The parameters as the region finds them: reshaped to one row. -/
theorem V_params (c : Dev nD) (l : Fin 512) : V m c main_v0 (ix2 0 l) = m ((c : Thread nD τ).loc main_arg0) (ix1 l) := by
  unfold V hostOps0
  after_reads_at

/-- The noise as the region finds it: the rows in sixteen groups of eight. -/
theorem V_noise (c : Dev nD) (t : Fin 16) (k : Fin 8) (l : Fin 512) :
    V m c main_v1 (ix3 t k l) = m ((c : Thread nD τ).loc main_arg1) (ix2 ⟨t.val * 8 + k.val, by omega⟩ l) := by
  unfold V hostOps0
  after_reads_at

/-- The parameters' block at every point is all of them. -/
theorem params_block (c : Dev nD) (t : Fin cfg0.N) (l : Fin 512) :
    (iblk m c 0 t : Vec Ideal S1x512 .f32) (ix2 0 l) = m ((c : Thread nD τ).loc main_arg0) (ix1 l) := by
  obtain ⟨h0, h1, _⟩ := index_eq t
  rw [← V_params m c l]
  show V m c main_v0 ((win0_0.rect t).emb (ix2 0 l)) = _
  congr 1
  funext a
  apply Fin.ext
  match a with
  | ⟨0, _⟩ => show win0_0.index t 0 * 1 + 1 * 0 = 0; rw [h0]
  | ⟨1, _⟩ => show win0_0.index t 1 * 512 + 1 * l.val = l.val; rw [h1]; omega

/-- The noise's block at point `t` is rows `8 t` to `8 t + 7`. -/
theorem noise_block (c : Dev nD) (t : Fin cfg0.N) (k : Fin 8) (l : Fin 512) :
    (iblk m c 1 t : Vec Ideal S1x8x512 .f32) (ix3 0 k l)
      = m ((c : Thread nD τ).loc main_arg1) (ix2 ⟨t.val * 8 + k.val, by have := lt_16 t; omega⟩ l) := by
  obtain ⟨_, _, h0, h1, h2, _⟩ := index_eq t
  rw [← V_noise m c ⟨t.val, lt_16 t⟩ k l]
  show V m c main_v1 ((win0_1.rect t).emb (ix3 0 k l)) = _
  congr 1
  funext a
  apply Fin.ext
  match a with
  | ⟨0, _⟩ => show win0_1.index t 0 * 1 + 1 * 0 = t.val; rw [h0]; omega
  | ⟨1, _⟩ => show win0_1.index t 1 * 8 + 1 * k.val = k.val; rw [h1]; omega
  | ⟨2, _⟩ => show win0_1.index t 2 * 512 + 1 * l.val = l.val; rw [h2]; omega

/-- The permutation matrices of device `c`'s arguments. -/
abbrev result (c : Dev nD) : Buf (Elt Ideal) ((c : Thread nD τ).loc main_v2) :=
  perms (m ((c : Thread nD τ).loc main_arg0)) (m ((c : Thread nD τ).loc main_arg1))

/-- Where point `t`'s block sits in the result array. -/
theorem emb_out (t : Fin cfg0.N) (k : Fin 8) (i j : Fin 512) :
    ((win0_2.rect t).emb (ix3 k i j : S8x512x512.Idx) : S128x512x512.Idx) = ix3 ⟨t.val * 8 + k.val, by have := lt_16 t; omega⟩ i j := by
  obtain ⟨_, _, _, _, _, h0, h1, h2⟩ := index_eq t
  funext a
  apply Fin.ext
  match a with
  | ⟨0, _⟩ => show win0_2.index t 0 * 8 + 1 * k.val = t.val * 8 + k.val; rw [h0]; omega
  | ⟨1, _⟩ => show win0_2.index t 1 * 512 + 1 * i.val = i.val; rw [h1]; omega
  | ⟨2, _⟩ => show win0_2.index t 2 * 512 + 1 * j.val = j.val; rw [h2]; omega

/-- What point `t` writes back is block `t` of the permutation matrices. -/
theorem flushed_eq (c : Dev nD) (t : Fin cfg0.N) :
    (dats m 0 c).flushed 2 t = ((cfg0.win 2).blk t).view.read (Elt Ideal) (result m c) := by
  rw [Value.flushed2, out_eq]
  funext y
  obtain ⟨k, i, j, rfl⟩ : ∃ (k : Fin 8) (i j : Fin 512), y = (ix3 k i j : S8x512x512.Idx) := ⟨y 0, y 1, y 2, eq_ix3 y⟩
  show blockOf (iblk m c 0 t) (iblk m c 1 t) (ix3 k i j) = result m c ((win0_2.rect t).emb (ix3 k i j : S8x512x512.Idx))
  rw [emb_out]
  show hit (blockRow (iblk m c 0 t) (iblk m c 1 t) k) i j
    = hit (row (m ((c : Thread nD τ).loc main_arg0)) (m ((c : Thread nD τ).loc main_arg1)) ⟨t.val * 8 + k.val, by have := lt_16 t; omega⟩) i j
  congr 1
  funext l
  exact congrArg₂ (fun a b : EReal => a + b) (params_block m c t l) (noise_block m c t k l)

/-- Every index of the result array is in the block of the point its sample belongs to. -/
theorem cover (y : S128x512x512.Idx) : ∃ t : Fin cfg0.N, (cfg0.win 2).flush t = true ∧ y ∈ ((cfg0.win 2).blk t).view.set := by
  have h0 : (y 0).val < 128 := (y 0).isLt
  have h1 : (y 1).val < 512 := (y 1).isLt
  have h2 : (y 2).val < 512 := (y 2).isLt
  obtain ⟨t, ht⟩ : ∃ t : Fin cfg0.N, t.val = (y 0).val / 8 := ⟨⟨(y 0).val / 8, by rw [show cfg0.N = 16 from N_0]; omega⟩, rfl⟩
  obtain ⟨_, _, _, _, _, e0, e1, e2⟩ := index_eq t
  refine ⟨t, flush0_2 t, ?_⟩
  show y ∈ ((View.whole main_v2).slice (win0_2.rect t)).set
  rw [View.set_slice_whole, Rect.mem_set_unit]
  intro a
  match a with
  | ⟨0, _⟩ => show win0_2.index t 0 * 8 ≤ (y 0).val ∧ (y 0).val < win0_2.index t 0 * 8 + 8; rw [e0]; omega
  | ⟨1, _⟩ => show win0_2.index t 1 * 512 ≤ (y 1).val ∧ (y 1).val < win0_2.index t 1 * 512 + 512; rw [e1]; omega
  | ⟨2, _⟩ => show win0_2.index t 2 * 512 ≤ (y 2).val ∧ (y 2).val < win0_2.index t 2 * 512 + 512; rw [e2]; omega

/-- THE RESULT ARRAY after the grid is the permutation matrices. -/
theorem final (c : Dev nD) : (dats m 0 c).arrAt 2 cfg0.N = result m c :=
  (dats m 0 c).arrAt_eq_of_cover 2 (result m c) (fun t _ => flushed_eq m c t) cover

/-- The kernel's run: the result array at the permutation matrices, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2.1, (h c).2.2⟩) (Value.run_blocks m ρ)

end Cert.Array

end
-- ==== Proof.Sorted.lean ====
/-
  The reference's two sorts and its one-hot matrix, read at an index.
-/
module

public import proofs.«01_k».proof.Proof.Spec
public import proofs.«01_k».proof.Proof.Gen.ReferenceIdeal
public import Idealize.ShloMosaic.PureOps.Ideal.Laws
public import Idealize.ShloMosaic.Lib.WordCmp
public import Idealize.ShloMosaic.Lib.Pointwise

@[expose] public section

noncomputable section

namespace Cert.Sorted

open Cert.ReferenceIdeal Cert.ReferenceIdeal.Gen Idealize.ShloMosaic Cert.Rank Cert.Spec

/-- A value replaced by zero where it equals zero, and by a marker where it differs from itself, is the value. -/
theorem select_self (x z : EReal) :
    Scalar.select (Ideal.cmp .une x x) z (Scalar.select (Ideal.cmp .oeq x (Ideal.ofBits .f32 0x00000000#32)) (Ideal.ofBits .f32 0x00000000#32) x) = x := by
  have h1 : Ideal.cmp .une x x = 0#1 := by simp [Ideal.cmp]
  rw [h1]
  by_cases h : x = 0
  · subst h; simp [Scalar.select, Ideal.cmp]
  · simp [Scalar.select, Ideal.cmp, h]

/-- The sort's comparator on (score, position) pairs is "smaller score". -/
theorem comparator_pair (l r : EReal × BitVec 32) :
    comparator_f32_i32_d1 (F := Ideal) l r = BitVec.ofBool (decide (l.1 < r.1)) := by
  show Ideal.cmp .olt (Scalar.select (Ideal.cmp .une l.1 l.1) _ (Scalar.select (Ideal.cmp .oeq l.1 _) _ l.1))
    (Scalar.select (Ideal.cmp .une r.1 r.1) _ (Scalar.select (Ideal.cmp .oeq r.1 _) _ r.1)) = _
  erw [select_self, select_self]
  rfl

/-- The scores as the reference writes them. -/
abbrev scores (g : FVec Ideal S512 .f32) (x : FVec Ideal S128x512 .f32) : FVec Ideal S128x512 .f32 :=
  addf (broadcastInDim S128x512 ![0, 1] bcast_S1x512_S128x512_0_1 (broadcastInDim S1x512 ![1] bcast_S512_S1x512_1 g)) x

/-- A score is its parameter plus its noise. -/
theorem scores_apply (g : FVec Ideal S512 .f32) (x : FVec Ideal S128x512 .f32) (s : Fin 128) (k : Fin 512) :
    scores g x (ix2 s k) = row g x s k := by
  unfold scores row
  pointwise

/-- The second result of a two-operand sort along the rows of a matrix, read at (s, i): the second operand at the column
    the row's sort takes its entry `i` from. -/
theorem sort2_snd {α β : Type} {m n : Nat} (cmp : α × β → α × β → BitVec 1) (x : (⟨2, ![m, n]⟩ : Shape).Idx → α)
    (y : (⟨2, ![m, n]⟩ : Shape).Idx → β) (s : Fin m) (i : Fin n) :
    (Host.sort2 ⟨2, ![m, n]⟩ 1 cmp x y).2 (ix2 s i)
      = y (ix2 s (sortedFrom (fun k k' => cmp (x (ix2 s k), y (ix2 s k)) (x (ix2 s k'), y (ix2 s k')) == 1#1) i)) := by
  have e : ∀ k : Fin n, (ix2 s i : (⟨2, ![m, n]⟩ : Shape).Idx).along 1 k = ix2 s k := by
    intro k; funext a; fin_cases a <;> rfl
  have h : (Host.sort2 ⟨2, ![m, n]⟩ 1 cmp x y).2 (ix2 s i)
      = y ((ix2 s i : (⟨2, ![m, n]⟩ : Shape).Idx).along 1 (sortedFrom (n := n) (fun k k' =>
          cmp (x ((ix2 s i : (⟨2, ![m, n]⟩ : Shape).Idx).along 1 k), y ((ix2 s i : (⟨2, ![m, n]⟩ : Shape).Idx).along 1 k))
            (x ((ix2 s i : (⟨2, ![m, n]⟩ : Shape).Idx).along 1 k'), y ((ix2 s i : (⟨2, ![m, n]⟩ : Shape).Idx).along 1 k')) == 1#1) i)) := rfl
  rw [h]
  simp only [e]

/-- A comparison bit of two words, read as a number. -/
theorem bit_real (a b : BitVec 32) : (((IntOp.cmpi .eq a b).toNat : ℝ) : EReal) = if a = b then 1 else 0 := by
  by_cases h : a = b <;> simp [IntOp.cmpi, h]

/-- Entry `i` of sample `s`'s argsort is the position the stable sort of the sample's scores takes its entry `i` from. -/
theorem argsort_apply (g : FVec Ideal S512 .f32) (x : FVec Ideal S128x512 .f32) (s : Fin 128) (i : Fin 512) :
    (Host.sort2 S128x512 1 (comparator_f32_i32_d1 (F := Ideal)) (scores g x) (iotaInDim S128x512 32 1)).2 (ix2 s i)
      = BitVec.ofNat 32 (sortedFrom (below (row g x s)) i).val := by
  refine (sort2_snd _ _ _ s i).trans ?_
  have hb : (fun k k' : Fin 512 => comparator_f32_i32_d1 (F := Ideal)
        (scores g x (ix2 s k), iotaInDim S128x512 32 1 (ix2 s k))
        (scores g x (ix2 s k'), iotaInDim S128x512 32 1 (ix2 s k')) == 1#1)
      = below (row g x s) := by
    funext k k'
    rw [comparator_pair]
    simp only [scores_apply, below]
    by_cases h : row g x s k < row g x s k' <;> simp [h]
  rw [hb]
  rfl

/-- The one-hot matrix of the argsort. -/
abbrev hard (g : FVec Ideal S512 .f32) (x : FVec Ideal S128x512 .f32) : FVec Ideal S128x512x512 .f32 :=
  uitofp .f32 (cmpi .eq (broadcastInDim S128x512x512 ![0, 1, 2] bcast_S128x512x1_S128x512x512_0_1_2
      (broadcastInDim S128x512x1 ![0, 1] bcast_S128x512_S128x512x1_0_1
        (Host.sort2 S128x512 1 (comparator_f32_i32_d1 (F := Ideal)) (scores g x) (iotaInDim S128x512 32 1)).2))
    (broadcastInDim S128x512x512 ![0, 1, 2] bcast_S1x1x512_S128x512x512_0_1_2 (iotaInDim S1x1x512 32 2)))

/-- THE ONE-HOT MATRIX IS THE RANK INDICATOR. -/
theorem hard_eq (g : FVec Ideal S512 .f32) (x : FVec Ideal S128x512 .f32) : hard g x = perms g x := by
  funext y
  obtain ⟨s, i, j, rfl⟩ : ∃ s i j, y = ix3 s i j := ⟨y 0, y 1, y 2, eq_ix3 y⟩
  have h : hard g x (ix3 s i j) = (((IntOp.cmpi .eq
      ((Host.sort2 S128x512 1 (comparator_f32_i32_d1 (F := Ideal)) (scores g x) (iotaInDim S128x512 32 1)).2 (ix2 s i))
      (BitVec.ofNat 32 j.val)).toNat : ℝ) : EReal) := by
    unfold hard
    pointwise
    rfl
  rw [h, argsort_apply, bit_real]
  show _ = hit (row g x s) i j
  have hlt : ∀ k : Fin 512, k.val < 2 ^ 32 := fun k => lt_trans k.isLt (by decide)
  refine if_congr ?_ rfl rfl
  rw [WordCmp.ofNat_eq_ofNat_iff (hlt _) (hlt _), ← sortedFrom_eq_iff_rank]
  exact ⟨fun e => Fin.ext e, fun e => congrArg Fin.val e⟩

/-- A sorted entry is one of the scores. -/
theorem sort_mem (v : FVec Ideal S128x512 .f32) (y : S128x512.Idx) : ∃ z, Host.sort S128x512 1 (comparator_f32_d1 (F := Ideal)) v y = v z :=
  ⟨_, rfl⟩

end Cert.Sorted

end
-- ==== Proof.Finite.lean ====
/-
  Finite values among the ideal values (the extended reals): which operations keep a value finite, and what a
  finite value may be cancelled from. The reference adds and subtracts its softmax; where the softmax is finite
  the two cancel.
-/
module

public import Idealize.ShloMosaic.PureOps.Ideal.Laws
public import Idealize.ShloMosaic.Lib.IdealHost
public import Idealize.ShloMosaic.PureOps.Reduce

@[expose] public section

noncomputable section

namespace Cert.Finite

open Idealize.ShloMosaic

/-- `x` is a real number: neither infinity. -/
def IsReal (x : EReal) : Prop := ∃ r : ℝ, x = (r : EReal)

/-- `x` is a positive real number. -/
def IsPos (x : EReal) : Prop := ∃ r : ℝ, 0 < r ∧ x = (r : EReal)

/-- A positive number is real. -/
theorem IsPos.real {x : EReal} (h : IsPos x) : IsReal x := by obtain ⟨r, _, h⟩ := h; exact ⟨r, h⟩

/-- A number that is neither infinity is real. -/
theorem isReal_of_ne {x : EReal} (hb : x ≠ ⊥) (ht : x ≠ ⊤) : IsReal x := ⟨x.toReal, (EReal.coe_toReal ht hb).symm⟩

/-- A real number is not minus infinity. -/
theorem IsReal.ne_bot {x : EReal} (h : IsReal x) : x ≠ ⊥ := by obtain ⟨r, rfl⟩ := h; exact EReal.coe_ne_bot r

/-- A real number is not plus infinity. -/
theorem IsReal.ne_top {x : EReal} (h : IsReal x) : x ≠ ⊤ := by obtain ⟨r, rfl⟩ := h; exact EReal.coe_ne_top r

/-- A difference of real numbers is real. -/
theorem IsReal.sub {x y : EReal} (hx : IsReal x) (hy : IsReal y) : IsReal (x - y) := by
  obtain ⟨r, rfl⟩ := hx; obtain ⟨s, rfl⟩ := hy; exact ⟨r - s, by norm_cast⟩

/-- A product of real numbers is real. -/
theorem IsReal.mul {x y : EReal} (hx : IsReal x) (hy : IsReal y) : IsReal (x * y) := by
  obtain ⟨r, rfl⟩ := hx; obtain ⟨s, rfl⟩ := hy; exact ⟨r * s, by norm_cast⟩

/-- The negative of a real number is real. -/
theorem IsReal.neg {x : EReal} (hx : IsReal x) : IsReal (-x) := by
  obtain ⟨r, rfl⟩ := hx; exact ⟨-r, by norm_cast⟩

/-- A real number divided by a positive one is a real number. -/
theorem IsReal.div {x y : EReal} (hx : IsReal x) (hy : IsPos y) : IsReal (Ideal.div x y) := by
  obtain ⟨r, rfl⟩ := hx; obtain ⟨s, hs, rfl⟩ := hy
  refine ⟨r * s⁻¹, ?_⟩
  have h0 : (s : EReal) ≠ 0 := by simpa using hs.ne'
  rw [Ideal.div, if_neg h0, ← EReal.coe_inv, EReal.coe_mul]

/-- The exponential of a real number is a positive one. -/
theorem IsReal.exp {x : EReal} (hx : IsReal x) : IsPos (Ideal.exp x) := by
  obtain ⟨r, rfl⟩ := hx; exact ⟨Real.exp r, Real.exp_pos r, rfl⟩

/-- A sum of positive real numbers over at least one term is positive. -/
theorem IsPos.sum {n : Nat} (f : Fin (n + 1) → EReal) (hf : ∀ k, IsPos (f k)) : IsPos (∑ k, f k) := by
  refine Finset.sum_induction_nonempty f IsPos ?_ Finset.univ_nonempty fun k _ => hf k
  rintro x y ⟨r, hr, rfl⟩ ⟨s, hs, rfl⟩
  exact ⟨r + s, add_pos hr hs, by norm_cast⟩

/-- The greatest of finitely many real numbers, at least one, taken from `-∞`, is a real number. -/
theorem isReal_fold_max {n : Nat} (f : Fin (n + 1) → EReal) (hf : ∀ k, IsReal (f k)) :
    IsReal ((Finset.univ : Finset (Fin (n + 1))).fold max ⊥ f) := by
  refine isReal_of_ne (fun h => ?_) (fun h => ?_)
  · have := (Finset.le_fold_max (b := (⊥ : EReal)) (f := f) (s := Finset.univ) (f 0)).mpr (Or.inr ⟨0, Finset.mem_univ _, le_rfl⟩)
    rw [h] at this
    exact (hf 0).ne_bot (le_bot_iff.mp this)
  · have := (Finset.fold_max_lt (b := (⊥ : EReal)) (f := f) (s := Finset.univ) ⊤).mpr
      ⟨bot_lt_top, fun k _ => lt_top_iff_ne_top.mpr (hf k).ne_top⟩
    rw [h] at this
    exact lt_irrefl _ this

/-- Subtracting a real number and adding it back changes nothing. -/
theorem sub_add_cancel {x y : EReal} (hy : IsReal y) : x - y + y = x := by
  obtain ⟨r, rfl⟩ := hy
  induction x with
  | bot => simp
  | top => simp
  | coe x => norm_cast; ring

/-- The literal for a tenth reads as a positive real number. -/
theorem isPos_tenth : IsPos (Ideal.ofBits .f32 0x3DCCCCCD#32) := by
  refine ⟨13421773 * (2 : ℝ) ^ (-27 : Int), by positivity, ?_⟩
  simp [Ideal.ofBits, Ideal.ieee, -EReal.coe_mul]

/-- The literal for `-∞` reads as it. -/
theorem ofBits_negInf : Ideal.ofBits .f32 0xFF800000#32 = ⊥ := by simp [Ideal.ofBits, Ideal.ieee]

/-- The literal for `∞` reads as it. -/
theorem ofBits_posInf : Ideal.ofBits .f32 0x7F800000#32 = ⊤ := by simp [Ideal.ofBits, Ideal.ieee]

end Cert.Finite

end
-- ==== Proof.Pre.lean ====
/-
  What the precondition says: every score is a real number.
-/
module

public import proofs.«01_k».proof.Defs
public import proofs.«01_k».proof.Proof.Sorted
public import proofs.«01_k».proof.Proof.Finite

@[expose] public section

set_option maxRecDepth 16384

noncomputable section

namespace Cert.Pre

open Idealize.ShloMosaic Idealize.ShloMosaic.TcCoe Cert.Spec Cert.Finite

/-- The shape conditions of the precondition's operations. -/
theorem facts : Cert.Pre_scores_finite.Facts := ⟨by decide, by decide, by decide⟩

/-- A number whose absolute value is below infinity is real. -/
theorem isReal_of_abs {x : EReal} (h : max x (-x) < ⊤) : IsReal x := by
  refine isReal_of_ne ?_ ?_
  · rintro rfl
    simp at h
  · rintro rfl
    simp at h

/-- The same, as the predicate writes it. -/
theorem isReal_of_cmp {x : EReal} (h : Ideal.cmp .olt (max x (-x)) (Ideal.ofBits .f32 0x7F800000#32) = 1#1) : IsReal x := by
  rw [ofBits_posInf] at h
  refine isReal_of_abs ?_
  by_contra hn
  simp [Ideal.cmp, hn] at h

/-- Where the predicate holds, every score is real. -/
theorem scores_real [Cert.Pre_scores_finite.Facts] (g : FVec Ideal Cert.ReferenceIdeal.S512 .f32) (x : FVec Ideal Cert.ReferenceIdeal.S128x512 .f32)
    (h : Cert.Pre_scores_finite.fn (F := Ideal) g x = fun _ => 1#1) (z : Cert.ReferenceIdeal.S128x512.Idx) :
    IsReal (Cert.Sorted.scores g x z) :=
  isReal_of_cmp (congrFun h z)

end Cert.Pre

end
-- ==== Proof.Soft.lean ====
/-
  The reference's softmax is a real number at every index when every score is, and so the reference's result is its
  one-hot matrix: the softmax it subtracts is the softmax it adds.
-/
module

public import proofs.«01_k».proof.Proof.Sorted
public import proofs.«01_k».proof.Proof.Finite
public import proofs.«01_k».proof.Proof.Gen.ReferenceIdeal.Run

@[expose] public section

noncomputable section

namespace Cert.Soft

open Cert.ReferenceIdeal Cert.ReferenceIdeal.Gen Idealize.ShloMosaic Idealize.SL.Sem Cert.Rank Cert.Spec Cert.Sorted Cert.Finite

/-- Sorted entry minus score, for every pair of a sample. -/
abbrev gap (v : FVec Ideal S128x512 .f32) : FVec Ideal S128x512x512 .f32 :=
  subf (broadcastInDim S128x512x512 ![0, 1, 2] bcast_S128x512x1_S128x512x512_0_1_2
      (broadcastInDim S128x512x1 ![0, 1] bcast_S128x512_S128x512x1_0_1 (Host.sort S128x512 1 comparator_f32_d1 v)))
    (broadcastInDim S128x512x512 ![0, 1, 2] bcast_S128x1x512_S128x512x512_0_1_2 (broadcastInDim S128x1x512 ![0, 2] bcast_S128x512_S128x1x512_0_2 v))

/-- The softmax's arguments: minus the squared gap over a tenth. -/
abbrev logits (v : FVec Ideal S128x512 .f32) : FVec Ideal S128x512x512 .f32 :=
  Host.divf (Host.negf (mulf (gap v) (gap v))) (broadcastInDim S128x512x512 ![] bcast_S_S128x512x512 (constant S_ .f32 0x3DCCCCCD#32))

/-- The exponentials, each row's greatest argument subtracted first. -/
abbrev expo (l : FVec Ideal S128x512x512 .f32) : FVec Ideal S128x512x512 .f32 :=
  Host.exp (subf l (broadcastInDim S128x512x512 ![0, 1, 2] bcast_S128x512x1_S128x512x512_0_1_2
    (broadcastInDim S128x512x1 ![0, 1] bcast_S128x512_S128x512x1_0_1
      (maximumf (broadcastInDim S128x512 ![] bcast_S_S128x512 (constant S_ .f32 0xFF800000#32))
        (Host.reduce FloatOps.maximumf l (constant S_ .f32 0xFF800000#32) reducesTo_S128x512x512_S128x512_d2 h_S_)))))

/-- The exponentials over their row's sum. -/
abbrev soft (e : FVec Ideal S128x512x512 .f32) : FVec Ideal S128x512x512 .f32 :=
  Host.divf e (broadcastInDim S128x512x512 ![0, 1, 2] bcast_S128x512x1_S128x512x512_0_1_2
    (broadcastInDim S128x512x1 ![0, 1] bcast_S128x512_S128x512x1_0_1
      (Host.reduceAdd e (constant S_ .f32 0x00000000#32) reducesTo_S128x512x512_S128x512_d2 h_S_)))

/-- Summing the last axis of the three-axis shape leaves the two-axis one. -/
theorem reduces : S128x512x512.Reduces [2] S128x512 := by decide

/-- A broadcast of real numbers is one. -/
theorem broadcast_real {s t : Shape} (dims : Fin s.rank → Fin t.rank) (h : s.BroadcastsInDim t dims) (x : s.Idx → EReal)
    (hx : ∀ z, IsReal (x z)) (y : t.Idx) : IsReal (broadcastInDim t dims h x y) := hx _

/-- Every entry of a sorted array of real numbers is one. -/
theorem sort_real (v : FVec Ideal S128x512 .f32) (hv : ∀ z, IsReal (v z)) (y : S128x512.Idx) :
    IsReal (Host.sort S128x512 1 (comparator_f32_d1 (F := Ideal)) v y) := by
  obtain ⟨z, hz⟩ := sort_mem v y
  rw [hz]
  exact hv z

/-- Differences of real scores are real. -/
theorem gap_real (v : FVec Ideal S128x512 .f32) (hv : ∀ z, IsReal (v z)) (y : S128x512x512.Idx) : IsReal (gap v y) :=
  (broadcast_real _ _ _ (broadcast_real _ _ _ (sort_real v hv)) y).sub (broadcast_real _ _ _ (broadcast_real _ _ _ hv) y)

/-- Every argument of the softmax is a real number. -/
theorem logits_real (v : FVec Ideal S128x512 .f32) (hv : ∀ z, IsReal (v z)) (y : S128x512x512.Idx) : IsReal (logits v y) :=
  IsReal.div ((gap_real v hv y).mul (gap_real v hv y)).neg isPos_tenth

/-- The greater of `-∞` and a real number, at every index of an array. -/
theorem maximumf_real {s : Shape} (x y : FVec Ideal s .f32) (hx : ∀ z, x z = ⊥) (hy : ∀ z, IsReal (y z)) (z : s.Idx) :
    IsReal (maximumf x y z) := by
  have h : maximumf x y z = max (x z) (y z) := rfl
  rw [h, hx, max_eq_right bot_le]
  exact hy z

/-- An array difference of real arrays is real. -/
theorem subf_real {s : Shape} (x y : FVec Ideal s .f32) (hx : ∀ z, IsReal (x z)) (hy : ∀ z, IsReal (y z)) (z : s.Idx) :
    IsReal (subf x y z) := (hx z).sub (hy z)

/-- The exponential of a real array is positive. -/
theorem exp_pos {s : Shape} (x : FVec Ideal s .f32) (hx : ∀ z, IsReal (x z)) (z : s.Idx) : IsPos (Host.exp x z) := (hx z).exp

/-- A real array over a positive one is real. -/
theorem divf_real {s : Shape} (x y : FVec Ideal s .f32) (hx : ∀ z, IsReal (x z)) (hy : ∀ z, IsPos (y z)) (z : s.Idx) :
    IsReal (Host.divf x y z) := (hx z).div (hy z)

/-- The greatest argument of a row is a real number. -/
theorem rowMax_real (l : FVec Ideal S128x512x512 .f32) (hl : ∀ y, IsReal (l y)) (z : S128x512.Idx) :
    IsReal (Host.reduce (FloatOps.maximumf (F := Ideal) (φ := .f32)) l (constant (F := Ideal) S_ .f32 0xFF800000#32) reducesTo_S128x512x512_S128x512_d2 h_S_ z) := by
  have h : Host.reduce (FloatOps.maximumf (F := Ideal) (φ := .f32)) l (constant (F := Ideal) S_ .f32 0xFF800000#32) reducesTo_S128x512x512_S128x512_d2 h_S_ z
      = (Finset.univ : Finset (Fin 512)).fold max (Ideal.ofBits .f32 0xFF800000#32) (l ∘ reduces.lift z) :=
    Host.reduce_eq_fold_single (max : EReal → EReal → EReal) l _ _ reduces _ z
  rw [h, ofBits_negInf]
  exact isReal_fold_max (n := 511) _ fun k => hl _

/-- Every exponential is a positive real number. -/
theorem expo_pos (l : FVec Ideal S128x512x512 .f32) (hl : ∀ y, IsReal (l y)) (y : S128x512x512.Idx) : IsPos (expo l y) :=
  exp_pos _ (subf_real _ _ hl (broadcast_real _ _ _ (broadcast_real _ _ _
    (maximumf_real _ _ (fun _ => ofBits_negInf) (rowMax_real l hl))))) y

/-- A broadcast of positive real numbers is one. -/
theorem broadcast_pos {s t : Shape} (dims : Fin s.rank → Fin t.rank) (h : s.BroadcastsInDim t dims) (x : s.Idx → EReal)
    (hx : ∀ z, IsPos (x z)) (y : t.Idx) : IsPos (broadcastInDim t dims h x y) := hx _

/-- A row's sum of exponentials is a positive real number. -/
theorem sum_pos (e : FVec Ideal S128x512x512 .f32) (he : ∀ y, IsPos (e y)) (z : S128x512.Idx) :
    IsPos (Host.reduceAdd e (constant S_ .f32 0x00000000#32) reducesTo_S128x512x512_S128x512_d2 h_S_ z) := by
  have h : Host.reduceAdd e (constant S_ .f32 0x00000000#32) reducesTo_S128x512x512_S128x512_d2 h_S_ z
      = Ideal.ofBits .f32 0x00000000#32 + ∑ k : Fin 512, e (reduces.lift z k) :=
    Ideal.hostReduceAdd_single _ reduces e _ z
  rw [h, Ideal.ofBits_zero_f32, zero_add]
  exact IsPos.sum (n := 511) _ fun k => he _

/-- The quotient of positive exponentials by their sums is real. -/
theorem soft_real (e : FVec Ideal S128x512x512 .f32) (he : ∀ y, IsPos (e y)) (y : S128x512x512.Idx) : IsReal (soft e y) :=
  divf_real _ _ (fun y => (he y).real) (broadcast_pos _ _ _ (broadcast_pos _ _ _ (sum_pos e he))) y

/-- Where every score is a real number, THE REFERENCE'S RESULT IS THE PERMUTATION MATRICES. -/
theorem result_eq (m : (ℓ : Loc nD τ sig) → Buf (Elt Ideal) ℓ) (c : Dev nD)
    (hv : ∀ z, IsReal (scores (m ((c.tc : Thread nD τ).loc main_arg0)) (m ((c.tc : Thread nD τ).loc main_arg1)) z)) :
    Cert.ReferenceIdeal.Value.res_out0 m c = perms (m ((c.tc : Thread nD τ).loc main_arg0)) (m ((c.tc : Thread nD τ).loc main_arg1)) := by
  rw [← hard_eq]
  funext y
  have hs := soft_real _ (expo_pos _ (logits_real _ hv)) y
  have h : Cert.ReferenceIdeal.Value.res_out0 m c y
      = hard (m ((c.tc : Thread nD τ).loc main_arg0)) (m ((c.tc : Thread nD τ).loc main_arg1)) y
        - soft (expo (logits (scores (m ((c.tc : Thread nD τ).loc main_arg0)) (m ((c.tc : Thread nD τ).loc main_arg1))))) y
        + soft (expo (logits (scores (m ((c.tc : Thread nD τ).loc main_arg0)) (m ((c.tc : Thread nD τ).loc main_arg1))))) y := by
    unfold Cert.ReferenceIdeal.Value.res_out0 Cert.ReferenceIdeal.Value.res_main_v27
    rfl
  rw [h]
  exact sub_add_cancel hs

end Cert.Soft

end
-- ==== Proof.Reference.lean ====
/-
  The reference's runs: the arguments unchanged and the machine quiescent, and, where every score is a real number, the
  result at the permutation matrices.
-/
module

public import proofs.«01_k».proof.Proof.Soft
public import proofs.«01_k».proof.Proof.Gen.ReferenceIdeal.Run
public import Idealize.ShloMosaic.Adequacy
public import Idealize.ShloMosaic.Init

@[expose] public section

noncomputable section

namespace Cert.Reference

open Cert.ReferenceIdeal Cert.ReferenceIdeal.Gen Idealize.ShloMosaic Idealize.SL.Sem Cert.Spec Cert.Finite

variable (m : (ℓ : Loc nD τ sig) → Buf (Elt Ideal) ℓ) (ρ : Dev nD → PrngReg)

/-- The reference runs, leaves its arguments unchanged, and ends with every semaphore at zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩)
    (Cert.ReferenceIdeal.Value.run m ρ)

/-- Where every score is real, the reference's run ends with the result at the permutation matrices. -/
theorem run (hv : ∀ (c : Dev nD) z, IsReal (Cert.Sorted.scores (m ((c.tc : Thread nD τ).loc main_arg0)) (m ((c.tc : Thread nD τ).loc main_arg1)) z)) :
    θ_run defs (onTc (τ := τ) (main (F := Ideal))) ⟨m, fun _ => 0, ρ⟩ fun r => ∀ c : Dev nD,
      r.2.mem ((c.tc : Thread nD τ).loc main_v27) = perms (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Cert.Soft.result_eq m c (hv c)), (h c).2⟩)
    (Cert.ReferenceIdeal.Value.run m ρ)

end Cert.Reference

end
-- ==== Proof.lean ====
/-
  The certificate: every program runs, leaves its arguments unchanged and ends quiescent; and at exact arithmetic, where
  every score is a real number, the kernel and the reference both end with the permutation matrices as their result.
-/
module

public import proofs.«01_k».proof.Defs
public import proofs.«01_k».proof.Proof.Gen.Kernel.Frame
public import proofs.«01_k».proof.Proof.Gen.KernelIdeal.Frame
public import proofs.«01_k».proof.Proof.Array
public import proofs.«01_k».proof.Proof.Pre
public import proofs.«01_k».proof.Proof.Reference

@[expose] public section

noncomputable section

namespace Cert.Proof

open Idealize.ShloMosaic Idealize.SL.Sem

/-- From arguments that agree and whose scores are real, the kernel's and the reference's results are the same
    permutation matrices. -/
theorem equal : algebraic_KernelIdeal_ReferenceIdeal_pre_scores_finite (hKernelIdeal := Cert.KernelIdeal.Gen.facts)
    (hReferenceIdeal := Cert.ReferenceIdeal.Gen.facts) (hPre_scores_finite := Cert.Pre.facts) := by
  intro m g m' g' hpre hargs
  refine ⟨fun c => Cert.Array.result m c, Cert.Array.run m g, ?_⟩
  have hv : ∀ (c : Dev Cert.ReferenceIdeal.nD) z, Cert.Finite.IsReal (Cert.Sorted.scores
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) z) := by
    intro c z
    rw [(hargs c).1, (hargs c).2]
    exact @Cert.Pre.scores_real Cert.Pre.facts _ _ (hpre c) z
  refine (θ_run _ _ _).mono (fun r h c => ⟨(h c).1.trans ?_, (h c).2⟩) (Cert.Reference.run m' g' hv)
  rw [(hargs c).1, (hargs c).2]

/-- The certificate's claims, together. -/
theorem claim : Cert.Claim :=
  ⟨Cert.Kernel.Gen.facts, Cert.KernelIdeal.Gen.facts, Cert.ReferenceIdeal.Gen.facts, Cert.Pre.facts,
    fun m ρ _ => Cert.Kernel.Gen.frame m ρ,
    fun m ρ _ => Cert.KernelIdeal.Gen.frame m ρ,
    fun m ρ _ => Cert.KernelIdeal.Gen.frame m ρ,
    fun m ρ _ => Cert.Reference.frame m ρ,
    fun m ρ _ => Cert.Reference.frame m ρ,
    trivial,
    equal⟩

end Cert.Proof

end
